-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192 : Shape := ⟨2, ![4, 8192]⟩
abbrev S32768 : Shape := ⟨1, ![32768]⟩
abbrev S1040 : Shape := ⟨1, ![1040]⟩
abbrev S1024 : Shape := ⟨1, ![1024]⟩
abbrev S_ : Shape := ⟨0, ![]⟩
abbrev S16 : Shape := ⟨1, ![16]⟩

abbrev nBuf : Table → Nat
  | .hbm => 8
  | .local .scVector .vmem => 2
  | _ => 0

abbrev bufTy : (tb : Table) → Fin (nBuf tb) → BufTy
  | .hbm, ⟨0, _⟩ => ⟨S4x8192, .i32⟩
  | .hbm, ⟨1, _⟩ => ⟨S32768, .i32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S4x8192, .i32⟩
  | .hbm, ⟨6, _⟩ => ⟨S4x8192, .i32⟩
  | .hbm, ⟨7, _⟩ => ⟨S4x8192, .i32⟩
  | .local .scVector .vmem, ⟨0, _⟩ => ⟨S1040, .i32⟩
  | .local .scVector .vmem, ⟨1, _⟩ => ⟨S1024, .i32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev main_v1_2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.remsi v1 c8_i32
  let c7_i32 : BitVec 32 := 7#32
  let v4 : BitVec 1 := Scalar.cmpi .eq v3 c7_i32
  let v_true : BitVec 1 := 1#1
  let v5 : BitVec 1 := Scalar.xori v4 v_true
  let v6 : BitVec 32 := Scalar.extui v5
  let c0_i32 : BitVec 32 := 0#32
  let v7 : BitVec 1 := Scalar.cmpi .ne v6 c0_i32
  v7

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_4 : BitVec 32 := 1024#32
  let v336 : BitVec 32 := Scalar.addi v2 c1024_i32_4
  ![v336.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.remsi v1 c8_i32
  let c4_i32 : BitVec 32 := 4#32
  let v330 : BitVec 1 := Scalar.cmpi .sge v3 c4_i32
  let v331 : BitVec 32 := Scalar.extui v330
  let c0_i32_1 : BitVec 32 := 0#32
  let v332 : BitVec 1 := Scalar.cmpi .ne v331 c0_i32_1
  v332

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.remsi v1 c8_i32
  let c4_i32 : BitVec 32 := 4#32
  let v330 : BitVec 1 := Scalar.cmpi .sge v3 c4_i32
  let true_2 : BitVec 1 := 1#1
  let v333 : BitVec 1 := Scalar.xori v330 true_2
  let v334 : BitVec 32 := Scalar.extui v333
  let c0_i32_3 : BitVec 32 := 0#32
  let v335 : BitVec 1 := Scalar.cmpi .ne v334 c0_i32_3
  v335

def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192 : Shape := ⟨2, ![4, 8192]⟩
abbrev S4x8191 : Shape := ⟨2, ![4, 8191]⟩
abbrev S_ : Shape := ⟨0, ![]⟩
abbrev S4x1 : Shape := ⟨2, ![4, 1]⟩
abbrev S8192 : Shape := ⟨1, ![8192]⟩
abbrev S1x8192 : Shape := ⟨2, ![1, 8192]⟩

abbrev nBuf : Space → Nat
  | .hbm => 14
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S4x8191, .i32⟩
  | .hbm, ⟨2, _⟩ => ⟨S_, .i32⟩
  | .hbm, ⟨3, _⟩ => ⟨S4x1, .i32⟩
  | .hbm, ⟨4, _⟩ => ⟨S4x8192, .i32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S1x8192, .i1⟩
  | .hbm, ⟨10, _⟩ => ⟨S_, .i32⟩
  | .hbm, ⟨11, _⟩ => ⟨S4x8192, .i32⟩
  | .hbm, ⟨12, _⟩ => ⟨S4x8192, .i1⟩
  | .hbm, ⟨13, _⟩ => ⟨S4x8192, .i32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.FlatRows.lean ====
/-
  The three arrays the kernel writes, as functions of the array it reads. The array of 4 rows of 8192 words is laid out flat, word `8192 * r + c` being
  column `c` of row `r`: so a row ends where the position leaves remainder 8191, and the second half of a row is where the remainder is 4096 or more.
-/
module

public import Idealize.ShloMosaic.PureOps

@[expose] public section

noncomputable section

namespace Cert.Proof.FlatRows

open Idealize.ShloMosaic

/-- The shape of the flat array. -/
abbrev Flat : Shape := ⟨1, ![32768]⟩

/-- The padding word, `-100` as a 32-bit word. -/
abbrev pad : BitVec 32 := 4294967196#32

/-- The flat position `n`, wrapped at the array's end. -/
def pos (n : ℕ) : Flat.Idx := fun a => ⟨n % 32768, by obtain rfl : a = 0 := Subsingleton.elim _ _; exact Nat.mod_lt n (by decide)⟩

/-- A flat position is known by its number. -/
theorem pos_eq (k : Flat.Idx) (n : ℕ) (h : (k 0).val = n) : pos n = k := by
  funext a
  obtain rfl : a = 0 := Subsingleton.elim _ _
  apply Fin.ext
  have hk : (k 0).val < 32768 := (k 0).isLt
  show n % 32768 = (k 0).val
  omega

/-- The labels: each word is the next word of its row, the row's last one the padding word. -/
def shifted (x : Flat.Idx → BitVec 32) : Flat.Idx → BitVec 32 :=
  fun k => if (k 0).val % 8192 = 8191 then pad else x (pos ((k 0).val + 1))

/-- The denoising labels: the second half of each row as it stands, the first half the padding word. -/
def halved (x : Flat.Idx → BitVec 32) : Flat.Idx → BitVec 32 :=
  fun k => if 4096 ≤ (k 0).val % 8192 then x k else pad

end Cert.Proof.FlatRows

end
-- ==== Proof.KernelIdeal.Setup.lean ====
/-
  The program `KernelIdeal` as the SparseCore launch theorem sees it, and what its one call hands each tile. Tile `s` of SparseCore `c` is worker
  `2 * s + c` and owns the flat positions `[2048 * s + 1024 * c, + 1024)` of the three outputs; the flat input is read by all the tiles (each also reads
  the first words of the next tile's block), so each of the thirty-two tiles is handed one share of it. A tile brings back its input share and its
  block of every output at the words the output holds there.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.FlatRows

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.FlatRows (shifted halved)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: its four semaphores are not scoped, start and completion differ, no tile's buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, the blocks -/

variable (m : (ℓ : Loc nD τ sig) → Buf (Elt F) ℓ) (ρ : Dev nD → PrngReg)

abbrev argLoc (d : Dev nD) : Loc nD τ sig := (SparseCore.T d).loc main_arg0
abbrev xLoc (d : Dev nD) : Loc nD τ sig := (SparseCore.T d).loc main_v0
abbrev aLoc (d : Dev nD) : Loc nD τ sig := (SparseCore.T d).loc main_v1_0
abbrev bLoc (d : Dev nD) : Loc nD τ sig := (SparseCore.T d).loc main_v1_1
abbrev cLoc (d : Dev nD) : Loc nD τ sig := (SparseCore.T d).loc main_v1_2

/-- The flat input: the argument's words, row after row. -/
def X (d : Dev nD) : Buf (Elt F) (xLoc d) := shapeCast S32768 (m (argLoc d)) shapeCasts_S4x8192_S32768
/-- What the kernel leaves in its first flat output: the input. -/
abbrev A (d : Dev nD) : Buf (Elt F) (aLoc d) := X m d
/-- What it leaves in its second: each row moved left by one. -/
abbrev B (d : Dev nD) : Buf (Elt F) (bLoc d) := shifted (X m d)
/-- What it leaves in its third: each row's second half. -/
abbrev C (d : Dev nD) : Buf (Elt F) (cLoc d) := halved (X m d)

/-- The block of tile `s` of SparseCore `c` lies inside the flat array. -/
theorem block_inb (c : Fin 2) (s : Fin 16) : ∀ a, (![2048 * s.val + 1024 * c.val] : Fin 1 → ℕ) a + S1024.size a ≤ S32768.size a := by
  intro a; obtain rfl : a = 0 := Subsingleton.elim _ _
  show 2048 * s.val + 1024 * c.val + 1024 ≤ 32768
  omega
abbrev block (c : Fin 2) (s : Fin 16) : Rect S32768 := Rect.unit (s := S32768) ![2048 * s.val + 1024 * c.val] S1024.size (block_inb c s)
abbrev blockSet (c : Fin 2) (s : Fin 16) : Finset S32768.Idx := (block c s).set

/-- The share of the flat input that tile `s` of SparseCore `c` reads through. -/
abbrev xq (c : Fin 2) (s : Fin 16) : PosShare TreeShare := leaf 5 fullShare ⟨16 * c.val + s.val, by omega⟩

variable [FloatOps F]

/-! ## What the handshakes carry -/

abbrev xShare (d : Dev nD) (c : Fin 2) (s : Fin 16) : sProp 𝕄 := xLoc d ↦{xq c s} X m d
abbrev aBlock (d : Dev nD) (c : Fin 2) (s : Fin 16) (f : Buf (Elt F) (aLoc d)) : sProp 𝕄 := aLoc d ↦[blockSet c s]{fullShare} f
abbrev bBlock (d : Dev nD) (c : Fin 2) (s : Fin 16) (f : Buf (Elt F) (bLoc d)) : sProp 𝕄 := bLoc d ↦[blockSet c s]{fullShare} f
abbrev cBlock (d : Dev nD) (c : Fin 2) (s : Fin 16) (f : Buf (Elt F) (cLoc d)) : sProp 𝕄 := cLoc d ↦[blockSet c s]{fullShare} f

/-- What a tile is handed. -/
abbrev give (d : Dev nD) (c : Fin 2) (s : Fin 16) : sProp 𝕄 :=
  iprop(xShare m d c s ∗ aBlock d c s (m (aLoc d)) ∗ bBlock d c s (m (bLoc d)) ∗ cBlock d c s (m (cLoc d)))
/-- What a tile brings back. -/
abbrev back (d : Dev nD) (c : Fin 2) (s : Fin 16) : sProp 𝕄 :=
  iprop(xShare m d c s ∗ aBlock d c s (A m d) ∗ bBlock d c s (B m d) ∗ cBlock d c s (C m d))

/-- The call gives each SparseCore what its sixteen tiles need, and each tile its part; the same way back. -/
def P : (K (F := F)).Pay (nD := nD) (Val := Elt F) (Name := ℕ) (U := UU) where
  st := fun q d c => match q with | 0 => bigSep Finset.univ fun s : Fin 16 => give m d (Fin.cast nCore_zero c) s
  dn := fun q d c => match q with | 0 => bigSep Finset.univ fun s : Fin 16 => back m d (Fin.cast nCore_zero c) s
  go := fun q d c i => match q with | 0 => give m d (Fin.cast nCore_zero c) (Fin.cast nSub_zero i)
  td := fun q d c i => match q with | 0 => back m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => give m d (Fin.cast nCore_zero c) s))
  dn q d c := match q with
    | 0 => (inferInstance : BI.Storable (upEmb : UEmb _ 𝕄) (bigSep Finset.univ fun s : Fin 16 => back m d (Fin.cast nCore_zero c) s))
  go q d c i := match q with
    | 0 => (inferInstance : BI.Storable (upEmb : UEmb _ 𝕄) (give m d (Fin.cast nCore_zero c) (Fin.cast nSub_zero i)))
  td q d c i := match q with
    | 0 => (inferInstance : BI.Storable (upEmb : UEmb _ 𝕄) (back m d (Fin.cast nCore_zero c) (Fin.cast nSub_zero i)))

end Cert.Proof.KernelIdeal

end
-- ==== Proof.KernelIdeal.Scratch.lean ====
/-
  What a tile of `KernelIdeal` owns of its own — its two scratch buffers and the six semaphores of its copies — taken out of the lists the launch theorem
  keeps them in, and the blocks it is handed spelt as the tile addresses them.
-/
module

public import proofs.«01_k».proof.Proof.KernelIdeal.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "xM" => (Memref.whole Cert.KernelIdeal.main_v0_scv : Memref Cert.KernelIdeal.sig Kind.scVector Space.hbm Cert.KernelIdeal.S32768 EltTy.i32)
local notation "aM" => (Memref.whole Cert.KernelIdeal.main_v1_0_scv : Memref Cert.KernelIdeal.sig Kind.scVector Space.hbm Cert.KernelIdeal.S32768 EltTy.i32)
local notation "bM" => (Memref.whole Cert.KernelIdeal.main_v1_1_scv : Memref Cert.KernelIdeal.sig Kind.scVector Space.hbm Cert.KernelIdeal.S32768 EltTy.i32)
local notation "cM" => (Memref.whole Cert.KernelIdeal.main_v1_2_scv : Memref Cert.KernelIdeal.sig Kind.scVector Space.hbm Cert.KernelIdeal.S32768 EltTy.i32)
local notation "bufM" => (Memref.whole Cert.KernelIdeal.cc0_scratch0 : Memref Cert.KernelIdeal.sig Kind.scVector Space.vmem Cert.KernelIdeal.S1040 EltTy.i32)
local notation "tmpM" => (Memref.whole Cert.KernelIdeal.cc0_scratch1 : Memref Cert.KernelIdeal.sig Kind.scVector Space.vmem Cert.KernelIdeal.S1024 EltTy.i32)

variable (d : Dev nD) (L : grid0.Coords)

abbrev cV (L : grid0.Coords) : Fin τ.nSC := (L 0).castLE hcore0
abbrev sV (L : grid0.Coords) : Fin τ.nSub := (L 1).castLE hsub0
theorem bound_zero : grid0.bound 0 = 2 := rfl
theorem bound_one : grid0.bound 1 = 16 := rfl
/-- The tile's SparseCore and its subcore, as the blocks are numbered. -/
abbrev cL (L : grid0.Coords) : Fin 2 := Fin.cast bound_zero (L 0)
abbrev sL (L : grid0.Coords) : Fin 16 := Fin.cast bound_one (L 1)

/-! ## The semaphores and the scratch buffers -/

/-- The tile's semaphore for its `n`-th scoped copy. -/
abbrev cell (sm : DmaSems sig S_) : GSem nD τ sig := (V d (cV L) (sV L), .dma sm.sem)

/-- The semaphores' cells in the tile's list, without the first ones. -/
abbrev cells1 : Finset (GSem nD τ sig) := (ownCells (V d (cV L) (sV L))).erase (cell d L cc0_scoped0)
abbrev cells2 : Finset (GSem nD τ sig) := (cells1 d L).erase (cell d L cc0_scoped1)
abbrev cells3 : Finset (GSem nD τ sig) := (cells2 d L).erase (cell d L cc0_scoped2)
abbrev cells4 : Finset (GSem nD τ sig) := (cells3 d L).erase (cell d L cc0_scoped3)
abbrev cells5 : Finset (GSem nD τ sig) := (cells4 d L).erase (cell d L cc0_scoped4)
abbrev cells6 : Finset (GSem nD τ sig) := (cells5 d L).erase (cell d L cc0_scoped5)

/-- Two semaphores that differ have different cells. -/
theorem cell_ne {a b : DmaSems sig S_} (h : (SemLoc.dma a.sem : SemLoc sig) ≠ .dma b.sem) : cell d L a ≠ cell d L b :=
  fun e => h (Prod.mk.inj e).2

/-- The six semaphores are among the tile's own: its list is them at zero and the rest. -/
theorem ownSems0_tile :
    (ownSems0 (V d (cV L) (sV L)) : sProp 𝕄)
      = iprop(semVal (cell d L cc0_scoped0) 0 ∗ semVal (cell d L cc0_scoped1) 0 ∗ semVal (cell d L cc0_scoped2) 0
          ∗ semVal (cell d L cc0_scoped3) 0 ∗ semVal (cell d L cc0_scoped4) 0 ∗ semVal (cell d L cc0_scoped5) 0
          ∗ bigSep (cells6 d L) fun g => semVal g 0) := by
  have own : ∀ sm : DmaSems sig S_, (SemLoc.dma sm.sem : SemLoc sig).isScoped .scVector = true → cell d L sm ∈ ownCells (V d (cV L) (sV L)) :=
    fun sm h => mem_ownCells.mpr ⟨rfl, h⟩
  unfold SparseCore.Cfg.ownSems0
  rw [SparseCore.bigSep_erase' (own cc0_scoped0 (by decide)),
    SparseCore.bigSep_erase' (show cell d L cc0_scoped1 ∈ cells1 d L from Finset.mem_erase.mpr ⟨cell_ne d L (by decide), own _ (by decide)⟩),
    SparseCore.bigSep_erase' (show cell d L cc0_scoped2 ∈ cells2 d L from
      Finset.mem_erase.mpr ⟨cell_ne d L (by decide), Finset.mem_erase.mpr ⟨cell_ne d L (by decide), own _ (by decide)⟩⟩),
    SparseCore.bigSep_erase' (show cell d L cc0_scoped3 ∈ cells3 d L from
      Finset.mem_erase.mpr ⟨cell_ne d L (by decide), Finset.mem_erase.mpr ⟨cell_ne d L (by decide),
        Finset.mem_erase.mpr ⟨cell_ne d L (by decide), own _ (by decide)⟩⟩⟩),
    SparseCore.bigSep_erase' (show cell d L cc0_scoped4 ∈ cells4 d L from
      Finset.mem_erase.mpr ⟨cell_ne d L (by decide), Finset.mem_erase.mpr ⟨cell_ne d L (by decide),
        Finset.mem_erase.mpr ⟨cell_ne d L (by decide), Finset.mem_erase.mpr ⟨cell_ne d L (by decide), own _ (by decide)⟩⟩⟩⟩),
    SparseCore.bigSep_erase' (show cell d L cc0_scoped5 ∈ cells5 d L from
      Finset.mem_erase.mpr ⟨cell_ne d L (by decide), Finset.mem_erase.mpr ⟨cell_ne d L (by decide),
        Finset.mem_erase.mpr ⟨cell_ne d L (by decide), Finset.mem_erase.mpr ⟨cell_ne d L (by decide),
          Finset.mem_erase.mpr ⟨cell_ne d L (by decide), own _ (by decide)⟩⟩⟩⟩⟩)]

/-- The tile's other buffers. -/
abbrev otherRefs : Finset (DevRef τ sig) :=
  ((ownRefs (τ := τ) (.scVector (cV L) (sV L))).erase ((Proc.scVector (cV L) (sV L)).devRef cc0_scratch0)).erase
    ((Proc.scVector (cV L) (sV L)).devRef cc0_scratch1)

/-- The two scratch buffers are among the tile's own: its list is them, at some contents, and the rest. -/
theorem ownBufs_tile :
    (ownBufs (V d (cV L) (sV L)) : sProp 𝕄)
      = iprop((∃ f, (V d (cV L) (sV L)).loc cc0_scratch0 ↦{fullShare} f) ∗ (∃ f, (V d (cV L) (sV L)).loc cc0_scratch1 ↦{fullShare} f)
          ∗ bigSep (otherRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L))
    (b := (Proc.scVector (cV L) (sV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (sV L)) (b := (Proc.scVector (cV L) (sV L)).devRef cc0_scratch1) rfl⟩)]

/-! ## The blocks as the tile addresses them -/

/-- The rectangle the tile's copies name in the flat arrays, and the flat arrays' parts there. -/
abbrev blockK (L : grid0.Coords) : Rect S32768 := Rect.unit (s := S32768) (k0_off1 L) S1024.size (k0_off1_inb L)
abbrev aBlockM (L : grid0.Coords) : Memref sig .scVector .hbm S1024 .i32 := (aM).slice (blockK L) (fun _ => rfl)
abbrev bBlockM (L : grid0.Coords) : Memref sig .scVector .hbm S1024 .i32 := (bM).slice (blockK L) (fun _ => rfl)
abbrev cBlockM (L : grid0.Coords) : Memref sig .scVector .hbm S1024 .i32 := (cM).slice (blockK L) (fun _ => rfl)

/-- It is the tile's block. -/
theorem blockK_eq : blockK L = block (cL L) (sL L) := by
  unfold blockK block
  congr 1
  exact k0_off1_eq L

theorem set_aBlockM : (aBlockM L).view.set = blockSet (cL L) (sL L) := by
  show ((View.whole (main_v1_0_scv : Ref sig .scVector)).slice (blockK L)).set = _
  rw [View.set_slice, blockK_eq]; exact Finset.map_refl
theorem set_bBlockM : (bBlockM L).view.set = blockSet (cL L) (sL L) := by
  show ((View.whole (main_v1_1_scv : Ref sig .scVector)).slice (blockK L)).set = _
  rw [View.set_slice, blockK_eq]; exact Finset.map_refl
theorem set_cBlockM : (cBlockM L).view.set = blockSet (cL L) (sL L) := by
  show ((View.whole (main_v1_2_scv : Ref sig .scVector)).slice (blockK L)).set = _
  rw [View.set_slice, blockK_eq]; exact Finset.map_refl

theorem pts_aBlockM (f : Buf (Elt F) (aLoc d)) :
    ((aBlockM L).view.loc (V d (cV L) (sV L)) ↦[(aBlockM L).view.set]{fullShare} f : sProp 𝕄) = aBlock d (cL L) (sL L) f := by
  rw [set_aBlockM]
theorem pts_bBlockM (f : Buf (Elt F) (bLoc d)) :
    ((bBlockM L).view.loc (V d (cV L) (sV L)) ↦[(bBlockM L).view.set]{fullShare} f : sProp 𝕄) = bBlock d (cL L) (sL L) f := by
  rw [set_bBlockM]
theorem pts_cBlockM (f : Buf (Elt F) (cLoc d)) :
    ((cBlockM L).view.loc (V d (cV L) (sV L)) ↦[(cBlockM L).view.set]{fullShare} f : sProp 𝕄) = cBlock d (cL L) (sL L) f := by
  rw [set_cBlockM]
theorem pts_xM (q : PosShare TreeShare) (f : Buf (Elt F) (xLoc d)) :
    ((xM).view.loc (V d (cV L) (sV L)) ↦{q} f : sProp 𝕄) = xLoc d ↦{q} f := rfl
theorem pts_bufM (f : Buf (Elt F) ((V d (cV L) (sV L)).loc cc0_scratch0)) :
    ((bufM).view.loc (V d (cV L) (sV L)) ↦{fullShare} f : sProp 𝕄) = (V d (cV L) (sV L)).loc cc0_scratch0 ↦{fullShare} f := rfl
theorem pts_tmpM (f : Buf (Elt F) ((V d (cV L) (sV L)).loc cc0_scratch1)) :
    ((tmpM).view.loc (V d (cV L) (sV L)) ↦{fullShare} f : sProp 𝕄) = (V d (cV L) (sV L)).loc cc0_scratch1 ↦{fullShare} f := rfl

end Cert.Proof.KernelIdeal

end
-- ==== Proof.KernelIdeal.Words.lean ====
/-
  The words the tile of `KernelIdeal` at launch coordinates `L` sees: its 1024 words of the flat input, the one after them (or the padding word, at a row's
  end), and what reading its scratch buffers and its blocks gives, position by position.
-/
module

public import proofs.«01_k».proof.Proof.KernelIdeal.Scratch
public import Idealize.ShloMosaic.Lib.Pipeline.Value

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "xM" => (Memref.whole Cert.KernelIdeal.main_v0_scv : Memref Cert.KernelIdeal.sig Kind.scVector Space.hbm Cert.KernelIdeal.S32768 EltTy.i32)
local notation "aM" => (Memref.whole Cert.KernelIdeal.main_v1_0_scv : Memref Cert.KernelIdeal.sig Kind.scVector Space.hbm Cert.KernelIdeal.S32768 EltTy.i32)
local notation "bM" => (Memref.whole Cert.KernelIdeal.main_v1_1_scv : Memref Cert.KernelIdeal.sig Kind.scVector Space.hbm Cert.KernelIdeal.S32768 EltTy.i32)
local notation "cM" => (Memref.whole Cert.KernelIdeal.main_v1_2_scv : Memref Cert.KernelIdeal.sig Kind.scVector Space.hbm Cert.KernelIdeal.S32768 EltTy.i32)
local notation "bufM" => (Memref.whole Cert.KernelIdeal.cc0_scratch0 : Memref Cert.KernelIdeal.sig Kind.scVector Space.vmem Cert.KernelIdeal.S1040 EltTy.i32)
local notation "tmpM" => (Memref.whole Cert.KernelIdeal.cc0_scratch1 : Memref Cert.KernelIdeal.sig Kind.scVector Space.vmem Cert.KernelIdeal.S1024 EltTy.i32)

variable (d : Dev nD) (L : grid0.Coords)

open FlatRows (Flat pad pos pos_eq shifted halved)

/-- Where the tile's block starts in the flat arrays. -/
abbrev start (L : grid0.Coords) : ℕ := 2048 * (L 1).val + 1024 * (L 0).val

theorem start_dvd (L : grid0.Coords) : start L % 1024 = 0 := by show (2048 * (L 1).val + 1024 * (L 0).val) % 1024 = 0; omega
theorem start_lt (L : grid0.Coords) : start L + 1024 ≤ 32768 := by
  have h0 : (L 0).val < 2 := (L 0).isLt
  have h1 : (L 1).val < 16 := (L 1).isLt
  show 2048 * (L 1).val + 1024 * (L 0).val + 1024 ≤ 32768
  omega

/-! ## The tile's conditions, as facts of where its block lies in its row -/

/-- The first condition: the block does not end its row. -/
theorem cond1_iff : ∀ L : grid0.Coords, k0_cond1 L = 1#1 ↔ start L % 8192 ≠ 7168 := by decide +kernel
/-- The third condition: the block lies in its row's second half. -/
theorem cond3_iff : ∀ L : grid0.Coords, k0_cond3 L = 1#1 ↔ 4096 ≤ start L % 8192 := by decide +kernel
/-- The fourth condition: the block lies in its row's first half. -/
theorem cond4_iff : ∀ L : grid0.Coords, k0_cond4 L = 1#1 ↔ start L % 8192 < 4096 := by decide +kernel

/-! ## What the arrays hold at the tile's positions -/

variable (m : (ℓ : Loc nD τ sig) → Buf (Elt F) ℓ)

/-- The `n`-th word from the start of the tile's block, the one that would begin the next row replaced by the padding word. -/
def word (n : ℕ) : BitVec 32 := if 1024 ≤ n ∧ start L % 8192 = 7168 then pad else X m d (pos (start L + n))

/-- Inside the block these are the input's words, … -/
theorem word_A (y : S1024.Idx) : word d L m (y 0).val = A m d (pos (start L + (y 0).val)) := by
  have hy : (y 0).val < 1024 := (y 0).isLt
  unfold word A
  rw [if_neg (by omega)]

/-- … one further on they are the labels, … -/
theorem word_B (y : S1024.Idx) : word d L m ((y 0).val + 1) = B m d (pos (start L + (y 0).val)) := by
  have hy : (y 0).val < 1024 := (y 0).isLt
  have hd := start_dvd L
  have hl := start_lt L
  have hp : (pos (start L + (y 0).val) 0).val = start L + (y 0).val := Nat.mod_eq_of_lt (by omega)
  unfold word B shifted
  rw [hp]
  by_cases h : (start L + (y 0).val) % 8192 = 8191
  · rw [if_pos h, if_pos (by omega)]
  · rw [if_neg h, if_neg (by omega), Nat.add_assoc (start L)]

/-- … and in a row's second half they are the denoising labels, … -/
theorem word_C (h : 4096 ≤ start L % 8192) (y : S1024.Idx) : word d L m (y 0).val = C m d (pos (start L + (y 0).val)) := by
  have hy : (y 0).val < 1024 := (y 0).isLt
  have hd := start_dvd L
  have hl := start_lt L
  have hp : (pos (start L + (y 0).val) 0).val = start L + (y 0).val := Nat.mod_eq_of_lt (by omega)
  rw [word_A]
  unfold A C halved
  rw [hp, if_pos (by omega)]

/-- … which in the first half are the padding word. -/
theorem pad_C (h : start L % 8192 < 4096) (y : S1024.Idx) : pad = C m d (pos (start L + (y 0).val)) := by
  have hy : (y 0).val < 1024 := (y 0).isLt
  have hd := start_dvd L
  have hl := start_lt L
  have hp : (pos (start L + (y 0).val) 0).val = start L + (y 0).val := Nat.mod_eq_of_lt (by omega)
  unfold C halved
  rw [hp, if_neg (by omega)]

/-! ## Reading the flat arrays -/

/-- A run of the flat array from position `o` on, read at its `n`-th place, is the array's word there. -/
theorem emb_flat {size : Fin S32768.rank → ℕ} (off : Fin S32768.rank → ℕ) (inb : ∀ a, off a + size a ≤ S32768.size a) (o : ℕ) (ho : off = ![o])
    (y : (Rect.unit (s := S32768) off size inb).shape.Idx) : (Rect.unit (s := S32768) off size inb).emb y = pos (o + (y 0).val) := by
  subst ho
  refine (pos_eq _ _ ?_).symm
  show o + 1 * (y 0).val = o + (y 0).val
  omega

/-- Landing words on a whole view whose block held `g`'s words leaves the block at `g`. -/
theorem writes_whole_eq {sg : RefSig} {κ : Kind} {sp : Space} {s : Shape} {e : EltTy} {Val : EltTy → Type} (v : View sg κ sp s e) (f g : v.ty.Contents Val)
    (w : s.Idx → Val e) (h : ∀ y, w y = v.read Val g y) : ∀ i ∈ v.set, v.writes Val f [⟨Rect.whole s, w⟩] i = g i := by
  intro i hi
  obtain ⟨y, -, rfl⟩ := Finset.mem_map.mp hi
  have e1 : v.read Val (v.writes Val f [⟨Rect.whole s, w⟩]) y = w y := by
    have := View.read_writes_cons_emb v f (Rect.whole s) w [] y
    rwa [Rect.emb_whole_apply] at this
  have e2 := e1.trans (h y)
  rw [View.read_apply, View.read_apply] at e2
  exact cast_inj _ |>.mp e2

/-! ## The scratch buffers -/

/-- The long buffer after two copies, one of 1024 words at its start and one of 16 behind them, each of `g`'s words: it holds `g`'s words. -/
theorem buf_word (fb : (bufM).view.ty.Contents (Elt F)) (g : ℕ → BitVec 32) (i1 i2) (u : S16.Idx → BitVec 32) (w : S1024.Idx → BitVec 32)
    (hu : ∀ x : S16.Idx, u x = g (1024 + (x 0).val)) (hw : ∀ x : S1024.Idx, w x = g (x 0).val) (k : S1040.Idx) :
    (bufM).view.writes (Elt F) fb [⟨Rect.unit (s := S1040) ![1024] S16.size i1, u⟩, ⟨Rect.unit (s := S1040) ![0] S1024.size i2, w⟩] k = g (k 0).val := by
  rw [← congrFun (View.read_whole (Val := Elt F) cc0_scratch0 ((bufM).view.writes (Elt F) fb _)) k]
  refine View.read_writes_apply_of_pieces (Val := Elt F) (bufM).view fb (fun k : S1040.Idx => g (k 0).val) _ ?_ k ?_
  · simp only [List.forall_mem_cons]
    refine ⟨fun x => (hu x).trans ?_, fun x => (hw x).trans ?_, nofun⟩
    · show g (1024 + (x 0).val) = g (1024 + 1 * (x 0).val)
      rw [Nat.one_mul]
    · show g (x 0).val = g (0 + 1 * (x 0).val)
      rw [Nat.one_mul, Nat.zero_add]
  · have hk : (k 0).val < 1040 := (k 0).isLt
    by_cases h : (k 0).val < 1024
    · refine ⟨_, List.mem_cons_of_mem _ List.mem_cons_self, (Rect.mem_set_unit (s := S1040) (inb := i2)).mpr fun a => ?_⟩
      obtain rfl : a = 0 := Subsingleton.elim _ _
      exact ⟨Nat.zero_le _, by show (k 0).val < 0 + 1024; omega⟩
    · refine ⟨_, List.mem_cons_self, (Rect.mem_set_unit (s := S1040) (inb := i1)).mpr fun a => ?_⟩
      obtain rfl : a = 0 := Subsingleton.elim _ _
      exact ⟨by show 1024 ≤ (k 0).val; omega, by show (k 0).val < 1024 + 16; omega⟩

/-- Sixteen words loaded from the long buffer one past `o`, in a tile's register form, are `g`'s words one past those of the place they are stored at. -/
theorem lane_word (f : (bufM).view.ty.Contents (Elt F)) (g : ℕ → BitVec 32) (hf : ∀ k : S1040.Idx, f k = g (k 0).val) (o o' : ℕ) (ho : o' = o + 1) (i1 i2)
    (h1 h2) (x : S16.Idx) :
    shapeCast S16 (shapeCast S16 (View.readAt (Elt F) (bufM).view (Rect.unit (s := S1040) ![o'] S16.size i1).toLoadRect f) h1) h2 x
      = (fun y : S1024.Idx => g ((y 0).val + 1)) ((Rect.unit (s := S1024) ![o] S16.size i2).emb x) := by
  subst ho
  rw [shapeCast_self]
  refine (congrFun (shapeCast_self (s := S16) (α := BitVec 32)
    (View.readAt (Elt F) (bufM).view (Rect.unit (s := S1040) ![o + 1] S16.size i1).toLoadRect f) h1) x).trans ?_
  refine (hf _).trans ?_
  show g (o + 1 + 1 * (x 0).val) = g (o + 1 * (x 0).val + 1)
  congr 1
  omega

/-- What the copies leave in the long buffer, whichever way the tile's two conditions go: the block's words and the word after them (its last fifteen words
    are never used). -/
theorem buf_cases (c2 : Prop) [Decidable c2] (h2 : c2 ↔ start L % 8192 = 7168) (fb : (bufM).view.ty.Contents (Elt F)) (i1 i2 i3 i4 i5 i6 i7)
    (u : k0_cond1 L = 1#1 → S16.Idx → BitVec 32) (w : S1024.Idx → BitVec 32) (p : S16.Idx → BitVec 32)
    (hu : ∀ (h : k0_cond1 L = 1#1) (x : S16.Idx), u h x = X m d (pos (start L + 1024 + (x 0).val)))
    (hw : ∀ x : S1024.Idx, w x = X m d (pos (start L + (x 0).val))) (hp : ∀ x : S16.Idx, p x = pad) (k : S1040.Idx) :
    (if _h : c2 then (bufM).view.writes (Elt F)
        (if h : k0_cond1 L = 1#1 then (bufM).view.writes (Elt F) fb [⟨Rect.unit (s := S1040) ![1024] S16.size i1, u h⟩, ⟨Rect.unit (s := S1040) ![0] S1024.size i2, w⟩]
          else (bufM).view.writes (Elt F) fb [⟨Rect.unit (s := S1040) ![0] S1024.size i3, w⟩])
        [⟨Rect.unit (s := S1040) ![1024] S16.size i4, p⟩]
      else if h : k0_cond1 L = 1#1 then (bufM).view.writes (Elt F) fb [⟨Rect.unit (s := S1040) ![1024] S16.size i5, u h⟩, ⟨Rect.unit (s := S1040) ![0] S1024.size i6, w⟩]
          else (bufM).view.writes (Elt F) fb [⟨Rect.unit (s := S1040) ![0] S1024.size i7, w⟩]) k = word d L m (k 0).val := by
  have h1 := cond1_iff L
  have hw' : ∀ x : S1024.Idx, w x = word d L m (x 0).val := fun x => (hw x).trans (word_A d L m x).symm
  by_cases h : start L % 8192 = 7168
  · have n1 : ¬ k0_cond1 L = 1#1 := fun e => h1.mp e h
    rw [dif_pos (h2.mpr h), dif_neg n1, ← View.writes_append]
    refine buf_word fb (word d L m) _ _ p w (fun x => (hp x).trans ?_) hw' k
    unfold word
    rw [if_pos ⟨Nat.le_add_right _ _, h⟩]
  · rw [dif_neg (fun e => h (h2.mp e)), dif_pos (h1.mpr h)]
    refine buf_word fb (word d L m) _ _ (u (h1.mpr h)) w (fun x => (hu _ x).trans ?_) hw' k
    unfold word
    rw [if_neg (fun e => h e.2), Nat.add_assoc (start L)]

/-- A copy of the long buffer's first 1024 words holds those words. -/
theorem head_word (f : (bufM).view.ty.Contents (Elt F)) (g : ℕ → BitVec 32) (hf : ∀ k : S1040.Idx, f k = g (k 0).val) (i) (p) (y : S1024.Idx) :
    View.read (Elt F) ((bufM).slice (Rect.unit (s := S1040) ![0] S1024.size i) p).view f y = g (y 0).val := by
  refine (hf _).trans ?_
  show g (0 + 1 * (y 0).val) = g (y 0).val
  rw [Nat.one_mul, Nat.zero_add]

/-- A copy of a run of the flat input holds the input's words there. -/
theorem input_word {size : Fin S32768.rank → ℕ} (off : Fin S32768.rank → ℕ) (inb : ∀ a, off a + size a ≤ S32768.size a) (p) (o : ℕ) (ho : off = ![o])
    (x : (Rect.unit (s := S32768) off size inb).shape.Idx) :
    View.read (Elt F) ((xM).slice (Rect.unit (s := S32768) off size inb) p).view (X m d) x = X m d (pos (o + (x 0).val)) :=
  congrArg (X m d) (emb_flat off inb o ho x)

/-- The tile's blocks of the three results, read place by place. -/
theorem read_aBlockM (g : Buf (Elt F) (aLoc d)) (y : S1024.Idx) : (aBlockM L).view.read (Elt F) g y = g (pos (start L + (y 0).val)) :=
  congrArg g (emb_flat _ (k0_off1_inb L) _ (k0_off1_eq L) y)
theorem read_bBlockM (g : Buf (Elt F) (bLoc d)) (y : S1024.Idx) : (bBlockM L).view.read (Elt F) g y = g (pos (start L + (y 0).val)) :=
  congrArg g (emb_flat _ (k0_off1_inb L) _ (k0_off1_eq L) y)
theorem read_cBlockM (g : Buf (Elt F) (cLoc d)) (y : S1024.Idx) : (cBlockM L).view.read (Elt F) g y = g (pos (start L + (y 0).val)) :=
  congrArg g (emb_flat _ (k0_off1_inb L) _ (k0_off1_eq L) y)

/-- Once a block's words are the result's, the tile holds its block of the result. -/
theorem land_a (f : Buf (Elt F) (aLoc d)) (w : S1024.Idx → BitVec 32) (h : ∀ y, w y = A m d (pos (start L + (y 0).val))) :
    ((aBlockM L).view.loc (V d (cV L) (sV L)) ↦[(aBlockM L).view.set]{fullShare} (aBlockM L).view.writes (Elt F) f [⟨Rect.whole S1024, w⟩] : sProp 𝕄)
      = aBlock d (cL L) (sL L) (A m d) :=
  (pointsTo_congr (writes_whole_eq (aBlockM L).view f (A m d) w fun y => (h y).trans (read_aBlockM d L (A m d) y).symm)).trans (pts_aBlockM d L _)
theorem land_b (f : Buf (Elt F) (bLoc d)) (w : S1024.Idx → BitVec 32) (h : ∀ y, w y = B m d (pos (start L + (y 0).val))) :
    ((bBlockM L).view.loc (V d (cV L) (sV L)) ↦[(bBlockM L).view.set]{fullShare} (bBlockM L).view.writes (Elt F) f [⟨Rect.whole S1024, w⟩] : sProp 𝕄)
      = bBlock d (cL L) (sL L) (B m d) :=
  (pointsTo_congr (writes_whole_eq (bBlockM L).view f (B m d) w fun y => (h y).trans (read_bBlockM d L (B m d) y).symm)).trans (pts_bBlockM d L _)
theorem land_c (f : Buf (Elt F) (cLoc d)) (w : S1024.Idx → BitVec 32) (h : ∀ y, w y = C m d (pos (start L + (y 0).val))) :
    ((cBlockM L).view.loc (V d (cV L) (sV L)) ↦[(cBlockM L).view.set]{fullShare} (cBlockM L).view.writes (Elt F) f [⟨Rect.whole S1024, w⟩] : sProp 𝕄)
      = cBlock d (cL L) (sL L) (C m d) :=
  (pointsTo_congr (writes_whole_eq (cBlockM L).view f (C m d) w fun y => (h y).trans (read_cBlockM d L (C m d) y).symm)).trans (pts_cBlockM d L _)

end Cert.Proof.KernelIdeal

end
-- ==== Proof.KernelIdeal.Tile.lean ====
/-
  One tile's run of `KernelIdeal`: given its share of the flat input, its blocks of the three flat results, its scratch and its semaphores, the tile's
  program ends with the three blocks at what the certificate states for them and everything else as it was handed.
-/
module

public import proofs.«01_k».proof.Proof.KernelIdeal.Words

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "xM" => (Memref.whole Cert.KernelIdeal.main_v0_scv : Memref Cert.KernelIdeal.sig Kind.scVector Space.hbm Cert.KernelIdeal.S32768 EltTy.i32)
local notation "aM" => (Memref.whole Cert.KernelIdeal.main_v1_0_scv : Memref Cert.KernelIdeal.sig Kind.scVector Space.hbm Cert.KernelIdeal.S32768 EltTy.i32)
local notation "bM" => (Memref.whole Cert.KernelIdeal.main_v1_1_scv : Memref Cert.KernelIdeal.sig Kind.scVector Space.hbm Cert.KernelIdeal.S32768 EltTy.i32)
local notation "cM" => (Memref.whole Cert.KernelIdeal.main_v1_2_scv : Memref Cert.KernelIdeal.sig Kind.scVector Space.hbm Cert.KernelIdeal.S32768 EltTy.i32)
local notation "bufM" => (Memref.whole Cert.KernelIdeal.cc0_scratch0 : Memref Cert.KernelIdeal.sig Kind.scVector Space.vmem Cert.KernelIdeal.S1040 EltTy.i32)
local notation "tmpM" => (Memref.whole Cert.KernelIdeal.cc0_scratch1 : Memref Cert.KernelIdeal.sig Kind.scVector Space.vmem Cert.KernelIdeal.S1024 EltTy.i32)

variable (d : Dev nD) (L : grid0.Coords)

open FlatRows (Flat pad pos pos_eq shifted halved)

variable (m : (ℓ : Loc nD τ sig) → Buf (Elt F) ℓ) [FloatOps F]

set_option maxHeartbeats 40000000 in
set_option maxRecDepth 65536 in
/-- The tile's program, at any launch coordinates: given its share of the flat input and its block of each flat result, it runs without fault and hands back
    the share with its three blocks holding the words stated for them, its scratch arrays, and its semaphores at zero. -/
theorem tile_body (hF : (K (F := F)).Facts) (O : CellTallies nD τ sig (HIx 1)) (W : Waits sig (HIx 1)) (hO : ∀ g, O g none = 0) :
    iprop(levAts (K (F := F)).L (K (F := F)).lev ∗ emp ∗ give m d (cL L) (sL L)
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc0__sc_process L xM (Memref.isWhole_whole _) aM (Memref.isWhole_whole _) bM (Memref.isWhole_whole _) cM (Memref.isWhole_whole _)
            bufM (Memref.isWhole_whole _) tmpM (Memref.isWhole_whole _) cc0_scoped0 cc0_scoped1 cc0_scoped2 cc0_scoped3 cc0_scoped4 cc0_scoped5)
          fun _ => iprop(back m d (cL L) (sL L) ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc0__sc_process_eq_skeleton]; unfold cc0__sc_process_skel
  rw [(K (F := F)).scopedBufs_V hF d (cV L) (sV L), SparseCore.Cfg.scopedSems0_V (Val := Elt F) d (cV L) (sV L), ownSems0_tile, ownBufs_tile]
  iintro ⟨#Hlv, -, ⟨Hx, Ha, Hb, Hc⟩, ⟨⟨%fb, Hbuf⟩, ⟨%ft, Htmp⟩, Hbufs⟩, ⟨Hs0, Hs1, Hs2, Hs3, Hs4, Hs5, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  ihave Ha' := (Entails.of_eq (pts_aBlockM (F := F) d L _).symm) $$ Ha
  ihave Hb' := (Entails.of_eq (pts_bBlockM (F := F) d L _).symm) $$ Hb
  ihave Hc' := (Entails.of_eq (pts_cBlockM (F := F) d L _).symm) $$ Hc
  ihave Hx' := (Entails.of_eq (pts_xM (F := F) d L _ _).symm) $$ Hx
  ihave Hbuf' := (Entails.of_eq (pts_bufM (F := F) d L _).symm) $$ Hbuf
  ihave Htmp' := (Entails.of_eq (pts_tmpM (F := F) d L _).symm) $$ Htmp
  sl_exec
  sl_step
  have hc2 := (show ∀ L : grid0.Coords, tile_body.sl.v9 L = 1#1 ↔ start L % 8192 = 7168 by decide +kernel) L
  have hbuf := buf_cases d L m (tile_body.sl.v9 L = 1#1) hc2 fb (by decide) (by decide) (by decide) (by decide) (by decide) (by decide) (by decide)
    (fun h => tile_body.sl.dma0_1 d L m h) (tile_body.sl.dma0 d L m) (shapeCast S16 tile_body.sl.v336_1 shapeCasts_S16_S16)
    (fun h x => input_word d m _ (k0_off2_inb L h) _ _ (k0_off2_eq L) x) (fun x => input_word d m _ (k0_off1_inb L) _ _ (k0_off1_eq L) x)
    (fun x => rfl)
  have hA : ∀ y, tile_body.sl.dma2 d L m fb y = A m d (pos (start L + (y 0).val)) := fun y =>
    (head_word _ (word d L m) hbuf _ _ y).trans (word_A d L m y)
  have hB : ∀ y : S1024.Idx, tile_body.sl.dma194 d L m fb ft y = B m d (pos (start L + (y 0).val)) := by
    intro y
    rw [← word_B]
    refine View.read_writes_apply_of_pieces (Val := Elt F) (tmpM).view ft (fun k : S1024.Idx => word d L m ((k 0).val + 1)) (tile_body.sl.Htmp'_64 d L m fb) ?_ y
      (View.cover_of_tiled (tile_body.sl.Htmp'_64 d L m fb) S16.size rfl y)
    unfold tile_body.sl.Htmp'_64 k0_pay1 k0_pay2 k0_pay3
    repeat
      refine List.forall_mem_cons.mpr ⟨fun x => ?_, ?_⟩
      · revert hbuf
        sl_unfold_run_names
        intro hbuf
        exact lane_word _ (word d L m) hbuf _ _ rfl (by decide) (by decide) shapeCasts_S16_S16 shapeCasts_S16_S16 x
    exact nofun
  have hC : ∀ y : S1024.Idx, start L % 8192 < 4096 → tile_body.sl.dma322 d L m fb ft y = C m d (pos (start L + (y 0).val)) := by
    intro y h
    rw [← pad_C d L m h]
    have split : (tmpM).view.writes (Elt F) ft (tile_body.sl.Htmp'_128 d L m fb)
        = (tmpM).view.writes (Elt F) ((tmpM).view.writes (Elt F) ft ((tile_body.sl.Htmp'_128 d L m fb).drop 64)) ((tile_body.sl.Htmp'_128 d L m fb).take 64) := by
      rw [← View.writes_append, List.take_append_drop]
    refine (congrArg (fun f => (tmpM).view.read (Elt F) f y) split).trans ?_
    refine View.read_writes_apply_of_pieces (Val := Elt F) (tmpM).view _ (fun _ : S1024.Idx => pad) ((tile_body.sl.Htmp'_128 d L m fb).take 64) ?_ y
      (View.cover_of_tiled ((tile_body.sl.Htmp'_128 d L m fb).take 64) S16.size rfl y)
    unfold tile_body.sl.Htmp'_128
    repeat
      refine List.forall_mem_cons.mpr ⟨fun x => rfl, ?_⟩
    exact nofun
  have hC' : ∀ y : S1024.Idx, 4096 ≤ start L % 8192 → tile_body.sl.dma194_1 d L m fb y = C m d (pos (start L + (y 0).val)) := fun y h =>
    (head_word _ (word d L m) hbuf _ _ y).trans (word_C d L m h y)
  ihave Ha'' := (Entails.of_eq (land_a d L m _ _ hA)) $$ Ha'
  ihave Hb'' := (Entails.of_eq (land_b d L m _ _ hB)) $$ Hb'
  isplitl [Hx' Ha'' Hb'' Hc']
  · unfold back
    isplitl [Hx']; · iapply (Entails.of_eq (pts_xM (F := F) d L _ _)); iexact Hx'
    isplitl [Ha'']; · iexact Ha''
    isplitl [Hb'']; · iexact Hb''
    by_cases h : start L % 8192 < 4096
    · rw [dif_pos ((cond4_iff L).mpr h)]
      iapply (Entails.of_eq (land_c d L m _ _ fun y => hC y h)); iexact Hc'
    · have h' : 4096 ≤ start L % 8192 := Nat.le_of_not_lt h
      rw [dif_neg (fun e => h ((cond4_iff L).mp e)), dif_pos ((cond3_iff L).mpr h')]
      iapply (Entails.of_eq (land_c d L m _ _ fun y => hC' y h')); iexact Hc'
  isplitl [Hbuf' Htmp' Hbufs]
  · isplitl [Hbuf']; · iexists _; iexact Hbuf'
    isplitl [Htmp']; · iexists _; iexact Htmp'
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr; swap
  · iexact HO
  ipureintro
  intro p hp
  unfold tile_body.sl.W3 tile_body.sl.W2 tile_body.sl.W0 at hp
  split_ifs at hp <;> simp only [Finset.mem_insert] at hp
  all_goals
    repeat
      rcases hp with hp | hp
      · exact .inr (hp ▸ rfl)
    exact .inl hp

end Cert.Proof.KernelIdeal

end
-- ==== Proof.KernelIdeal.Blocks.lean ====
/-
  The flat arrays of `KernelIdeal` in the tiles' blocks: the thirty-two blocks are apart and cover the array, so an array held whole is its blocks held by the
  tiles, and the input held whole is the tiles' shares of it.
-/
module

public import proofs.«01_k».proof.Proof.KernelIdeal.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves (leaf pointsTo_leaves)

variable {F : FTy → Type}

local notation "𝕄" => MT nD τ sig (HIx 1) (Elt F) ℕ UU ℕ
variable (d : Dev nD)

/-! ## The blocks -/

/-- A place lies in a block when its number is one of the block's 1024. -/
theorem mem_blockSet (c : Fin 2) (s : Fin 16) (k : S32768.Idx) :
    k ∈ blockSet c s ↔ 2048 * s.val + 1024 * c.val ≤ (k 0).val ∧ (k 0).val < 2048 * s.val + 1024 * c.val + 1024 := by
  refine (Rect.mem_set_unit (s := S32768) (inb := block_inb c s)).trans ⟨fun h => h 0, fun h a => ?_⟩
  obtain rfl : a = 0 := Subsingleton.elim _ _
  exact h

/-- Two tiles' blocks are apart. -/
theorem blocks_disjoint : ∀ p ∈ (Finset.univ : Finset (Fin 2 × Fin 16)), ∀ q ∈ (Finset.univ : Finset (Fin 2 × Fin 16)), p ≠ q →
    Disjoint (blockSet p.1 p.2) (blockSet q.1 q.2) := by
  rintro ⟨c, s⟩ - ⟨c', s'⟩ - h
  refine Finset.disjoint_left.mpr fun k hk hk' => h ?_
  have h1 := (mem_blockSet c s k).mp hk
  have h2 := (mem_blockSet c' s' k).mp hk'
  have hc := c.isLt
  have hc' := c'.isLt
  exact Prod.ext (Fin.ext (show c.val = c'.val by omega)) (Fin.ext (show s.val = s'.val by omega))

/-- The blocks cover the array. -/
theorem blocks_cover : (Finset.univ : Finset (Fin 2 × Fin 16)).biUnion (fun p => blockSet p.1 p.2) = (Finset.univ : Finset S32768.Idx) := by
  refine Finset.eq_univ_iff_forall.mpr fun k => ?_
  have hk : (k 0).val < 32768 := (k 0).isLt
  refine Finset.mem_biUnion.mpr ⟨(⟨(k 0).val / 1024 % 2, by omega⟩, ⟨(k 0).val / 2048, by omega⟩), Finset.mem_univ _, (mem_blockSet _ _ k).mpr ?_⟩
  show 2048 * ((k 0).val / 2048) + 1024 * ((k 0).val / 1024 % 2) ≤ (k 0).val ∧ (k 0).val < 2048 * ((k 0).val / 2048) + 1024 * ((k 0).val / 1024 % 2) + 1024
  omega

/-! ## The arrays whole and in blocks -/

/-- What each of the two SparseCores' sixteen tiles holds, all together. -/
abbrev each (Φ : Fin 2 → Fin 16 → sProp 𝕄) : sProp 𝕄 := bigSep Finset.univ fun c : Fin 2 => bigSep Finset.univ fun s : Fin 16 => Φ c s

theorem each_sep (Φ Ψ : Fin 2 → Fin 16 → sProp 𝕄) : each (fun c s => iprop(Φ c s ∗ Ψ c s)) = iprop(each Φ ∗ each Ψ) := by
  unfold each
  rw [← bigSep_sep']
  exact bigSep_congr fun c _ => bigSep_sep' _ _ _

theorem each_pairs (Φ : Fin 2 → Fin 16 → sProp 𝕄) : (bigSep Finset.univ fun p : Fin 2 × Fin 16 => Φ p.1 p.2) = each Φ := bigSep_univ_prod _

theorem a_blocks (f : Buf (Elt F) (aLoc d)) : (aLoc d ↦{fullShare} f : sProp 𝕄) = each fun c s => aBlock d c s f := by
  rw [← each_pairs, ← pointsTo_biUnion Finset.univ (ℓ := aLoc d) (fun p : Fin 2 × Fin 16 => blockSet p.1 p.2) blocks_disjoint, blocks_cover]
theorem b_blocks (f : Buf (Elt F) (bLoc d)) : (bLoc d ↦{fullShare} f : sProp 𝕄) = each fun c s => bBlock d c s f := by
  rw [← each_pairs, ← pointsTo_biUnion Finset.univ (ℓ := bLoc d) (fun p : Fin 2 × Fin 16 => blockSet p.1 p.2) blocks_disjoint, blocks_cover]
theorem c_blocks (f : Buf (Elt F) (cLoc d)) : (cLoc d ↦{fullShare} f : sProp 𝕄) = each fun c s => cBlock d c s f := by
  rw [← each_pairs, ← pointsTo_biUnion Finset.univ (ℓ := cLoc d) (fun p : Fin 2 × Fin 16 => blockSet p.1 p.2) blocks_disjoint, blocks_cover]

/-- The thirty-two tiles numbered: SparseCore `c`'s tile `s` is `16 c + s`. -/
def tileNo : Fin 2 × Fin 16 ≃ Fin (2 ^ 5) where
  toFun p := ⟨16 * p.1.val + p.2.val, by have h1 := p.1.isLt; have h2 := p.2.isLt; show _ < 32; omega⟩
  invFun n := (⟨n.val / 16, by have h : n.val < 32 := n.isLt; omega⟩, ⟨n.val % 16, by omega⟩)
  left_inv p := by
    have h1 := p.1.isLt; have h2 := p.2.isLt
    exact Prod.ext (Fin.ext (show (16 * p.1.val + p.2.val) / 16 = p.1.val by omega)) (Fin.ext (show (16 * p.1.val + p.2.val) % 16 = p.2.val by omega))
  right_inv n := Fin.ext (show 16 * (n.val / 16) + n.val % 16 = n.val by omega)

theorem x_shares (f : Buf (Elt F) (xLoc d)) : (xLoc d ↦{fullShare} f : sProp 𝕄) = each fun c s => xLoc d ↦{xq c s} f := by
  rw [← each_pairs, pointsTo_leaves Finset.univ f 5 fullShare, bigSep_univ_equiv tileNo]
  rfl

variable (m : (ℓ : Loc nD τ sig) → Buf (Elt F) ℓ) [FloatOps F]

/-- What the call hands the two SparseCores is the flat input and the three results' arrays, whole. -/
theorem st_eq : (bigSep Finset.univ fun c : Fin ((K (F := F)).nCore 0) => (P m).st 0 d c)
    = iprop((xLoc d ↦{fullShare} X m d) ∗ (aLoc d ↦{fullShare} m (aLoc d)) ∗ (bLoc d ↦{fullShare} m (bLoc d)) ∗ (cLoc d ↦{fullShare} m (cLoc d))) := by
  show each (fun c s => give m d c s) = _
  rw [each_sep, each_sep, each_sep, ← a_blocks, ← b_blocks, ← c_blocks, ← x_shares]

/-- What they hand back: the flat input, and the three arrays at the stated results. -/
theorem dn_eq : (bigSep Finset.univ fun c : Fin ((K (F := F)).nCore 0) => (P m).dn 0 d c)
    = iprop((xLoc d ↦{fullShare} X m d) ∗ (aLoc d ↦{fullShare} A m d) ∗ (bLoc d ↦{fullShare} B m d) ∗ (cLoc d ↦{fullShare} C m d)) := by
  show each (fun c s => back m d c s) = _
  rw [each_sep, each_sep, each_sep, ← a_blocks, ← b_blocks, ← c_blocks, ← x_shares]

/-- A SparseCore hands its sixteen tiles their parts, and has back what they bring. -/
theorem vecSplit : (K (F := F)).VecSplit' (P m) 0 := by
  intro d c
  show (bigSep Finset.univ fun s : Fin 16 => give m d (Fin.cast nCore_zero c) s) ⊢ |={Set.univ}=> iprop(
      (bigSep Finset.univ fun i : Fin 16 => give m d (Fin.cast nCore_zero c) i)
      ∗ ((bigSep Finset.univ fun i : Fin 16 => back m d (Fin.cast nCore_zero c) i) -∗ bigSep Finset.univ fun s : Fin 16 => back m d (Fin.cast nCore_zero c) s))
  iintro H; imodintro
  isplitl [H]; · iexact H
  iintro H; iexact H

end Cert.Proof.KernelIdeal

end
-- ==== Proof.KernelIdeal.Launch.lean ====
/-
  The whole run of `KernelIdeal`: the TensorCore flattens the argument, starts the SparseCore call and waits for it, and brings the three flat results back to
  rows. Every run ends with the three results at what is stated for them, the argument as it was, and every semaphore at zero.
-/
module

public import proofs.«01_k».proof.Proof.KernelIdeal.Tile
public import proofs.«01_k».proof.Proof.KernelIdeal.Blocks

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open StableHlo (held held_split held_sdiff_result wp_hlo_within)

variable {F : FTy → Type}

local notation "𝕄" => MT nD τ sig (HIx 1) (Elt F) ℕ UU ℕ
local notation "xM" => (Memref.whole Cert.KernelIdeal.main_v0_scv : Memref Cert.KernelIdeal.sig Kind.scVector Space.hbm Cert.KernelIdeal.S32768 EltTy.i32)
local notation "aM" => (Memref.whole Cert.KernelIdeal.main_v1_0_scv : Memref Cert.KernelIdeal.sig Kind.scVector Space.hbm Cert.KernelIdeal.S32768 EltTy.i32)
local notation "bM" => (Memref.whole Cert.KernelIdeal.main_v1_1_scv : Memref Cert.KernelIdeal.sig Kind.scVector Space.hbm Cert.KernelIdeal.S32768 EltTy.i32)
local notation "cM" => (Memref.whole Cert.KernelIdeal.main_v1_2_scv : Memref Cert.KernelIdeal.sig Kind.scVector Space.hbm Cert.KernelIdeal.S32768 EltTy.i32)
local notation "bufM" => (Memref.whole Cert.KernelIdeal.cc0_scratch0 : Memref Cert.KernelIdeal.sig Kind.scVector Space.vmem Cert.KernelIdeal.S1040 EltTy.i32)
local notation "tmpM" => (Memref.whole Cert.KernelIdeal.cc0_scratch1 : Memref Cert.KernelIdeal.sig Kind.scVector Space.vmem Cert.KernelIdeal.S1024 EltTy.i32)

variable (m : (ℓ : Loc nD τ sig) → Buf (Elt F) ℓ) (ρ : Dev nD → PrngReg) [FloatOps F]

/-! ## The tiles' part -/

/-- A tile's place on the launch grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_process (coordsV c s)
          xM (Memref.isWhole_whole _) aM (Memref.isWhole_whole _) bM (Memref.isWhole_whole _) cM (Memref.isWhole_whole _)
          bufM (Memref.isWhole_whole _) tmpM (Memref.isWhole_whole _) cc0_scoped0 cc0_scoped1 cc0_scoped2 cc0_scoped3 cc0_scoped4 cc0_scoped5) ⟨⟩ c s := rfl

omit [FloatOps F] in
theorem obl_post {thr : Thread nD τ} {R₁ R₂ R₃ : sProp 𝕄} {O : CellTallies nD τ sig (HIx 1)} {W : Waits sig (HIx 1)} {q : Fin 1} :
    iprop(R₁ ∗ R₂ ∗ R₃ ∗ ∃ W', ⌜∀ p ∈ W', p ∈ W ∨ p.2 = none⌝ ∗ owes thr O W')
      ⊢ iprop(R₁ ∗ R₂ ∗ R₃ ∗ ∃ W', ⌜∀ p ∈ W', p ∈ W ∨ p.2 = none ∨ p.2 = some q⌝ ∗ owes thr O W') := by
  iintro ⟨H1, H2, H3, %W', %hW', HO⟩
  isplitl [H1]; · iexact H1
  isplitl [H2]; · iexact H2
  isplitl [H3]; · iexact H3
  iexists W'; isplitr
  · ipureintro; exact fun p hp => (hW' p hp).imp_right Or.inl
  · iexact HO

set_option maxRecDepth 16384 in
/-- Every tile the call starts does what `tile_body` states. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m hF O W hO).trans (wp_mono frame _ _ fun _ => obl_post)

/-! ## The ghost state at launch -/

def u₀ : UU := (initOf (K (F := F)).hsCells (K (F := F)).hsToks, 1)

/-- Many copies of nothing are nothing. -/
theorem nothing_each {ι : Type} (J : Finset ι) : (iprop(emp) : sProp 𝕄) = bigSep J fun _ => iprop(emp) := (bigSep_emp_const J).symm

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [← nothing_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), ← nothing_each]
  iempintro

/-! ## The TensorCore's part: its arrays and its four reshapes -/

abbrev gB : DevRef τ sig := Proc.devRef .tc (main_arg0 : Ref sig .tc)
abbrev xB : DevRef τ sig := Proc.devRef .tc (main_v0 : Ref sig .tc)
abbrev aB : DevRef τ sig := Proc.devRef .tc (main_v1_0 : Ref sig .tc)
abbrev bB : DevRef τ sig := Proc.devRef .tc (main_v1_1 : Ref sig .tc)
abbrev cB : DevRef τ sig := Proc.devRef .tc (main_v1_2 : Ref sig .tc)
abbrev aR : DevRef τ sig := Proc.devRef .tc (main_v2 : Ref sig .tc)
abbrev bR : DevRef τ sig := Proc.devRef .tc (main_v3 : Ref sig .tc)
abbrev cR : DevRef τ sig := Proc.devRef .tc (main_v4 : Ref sig .tc)

abbrev opX : HloOp τ sig (Elt F) := StableHlo.reshape main_arg0 main_v0 (rfl : (.i32 : EltTy) = .i32) shapeCasts_S4x8192_S32768
abbrev opA : HloOp τ sig (Elt F) := StableHlo.reshape main_v1_0 main_v2 (rfl : (.i32 : EltTy) = .i32) shapeCasts_S32768_S4x8192
abbrev opB : HloOp τ sig (Elt F) := StableHlo.reshape main_v1_1 main_v3 (rfl : (.i32 : EltTy) = .i32) shapeCasts_S32768_S4x8192
abbrev opC : HloOp τ sig (Elt F) := StableHlo.reshape main_v1_2 main_v4 (rfl : (.i32 : EltTy) = .i32) shapeCasts_S32768_S4x8192

/-- Where the three results in rows lie. -/
abbrev raLoc (d : Dev nD) : Loc nD τ sig := (SparseCore.T d : Thread nD τ).loc main_v2
abbrev rbLoc (d : Dev nD) : Loc nD τ sig := (SparseCore.T d : Thread nD τ).loc main_v3
abbrev rcLoc (d : Dev nD) : Loc nD τ sig := (SparseCore.T d : Thread nD τ).loc main_v4

/-- The TensorCore's eight arrays. -/
abbrev arrays : Finset (DevRef τ sig) := {gB, xB, aB, bB, cB, aR, bR, cR}

omit [FloatOps F] in
theorem held_arrays (d : Dev nD) (W : Valuation τ sig (Elt F)) :
    (held (T d) arrays W : sProp 𝕄)
      = iprop((argLoc d ↦{fullShare} W gB) ∗ (xLoc d ↦{fullShare} W xB) ∗ (aLoc d ↦{fullShare} W aB) ∗ (bLoc d ↦{fullShare} W bB) ∗ (cLoc d ↦{fullShare} W cB)
          ∗ (raLoc d ↦{fullShare} W aR) ∗ (rbLoc d ↦{fullShare} W bR) ∗ rcLoc d ↦{fullShare} W cR) := by
  unfold held arrays
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((argLoc d ↦{fullShare} W main_arg0) ∗ (xLoc d ↦{fullShare} W main_v0) ∗ (aLoc d ↦{fullShare} W main_v1_0) ∗ (bLoc d ↦{fullShare} W main_v1_1)
          ∗ (cLoc d ↦{fullShare} W main_v1_2) ∗ (raLoc d ↦{fullShare} W main_v2) ∗ (rbLoc d ↦{fullShare} W main_v3)
          ∗ rcLoc d ↦{fullShare} W main_v4) := by
  unfold unscopedBufs
  rw [show (Finset.univ.filter fun b : Ref sig .tc => ¬ b.isScoped) = {main_arg0, main_v0, main_v1_0, main_v1_1, main_v1_2, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays' contents at launch, … -/
def V0 (d : Dev nD) : Valuation τ sig (Elt F) := fun b => m (d, b)
/-- … once the argument is flattened, … -/
def V1 (d : Dev nD) : Valuation τ sig (Elt F) := (opX (F := F)).result (V0 m d)
/-- … after the call, … -/
def V2 (d : Dev nD) : Valuation τ sig (Elt F) :=
  Function.update (Function.update (Function.update (V1 m d) aB (A m d)) bB (B m d)) cB (C m d)
/-- … and once the results are back in rows. -/
def V3 (d : Dev nD) : Valuation τ sig (Elt F) := (opC (F := F)).result ((opB (F := F)).result ((opA (F := F)).result (V2 m d)))

/-- The three results: the flat ones, in rows. -/
def resA (d : Dev nD) : Buf (Elt F) (raLoc d) := shapeCast S4x8192 (A m d) shapeCasts_S32768_S4x8192
def resB (d : Dev nD) : Buf (Elt F) (rbLoc d) := shapeCast S4x8192 (B m d) shapeCasts_S32768_S4x8192
def resC (d : Dev nD) : Buf (Elt F) (rcLoc d) := shapeCast S4x8192 (C m d) shapeCasts_S32768_S4x8192

theorem unscoped_held (d : Dev nD) : (unscopedBufs d (fun b => m ((SparseCore.T d).loc b)) : sProp 𝕄) = held (T d) arrays (V0 m d) := by
  rw [unscopedBufs_eq, held_arrays]; rfl

theorem V1_x (d : Dev nD) : V1 m d xB = X m d := StableHlo.reshape_result _ _ _ _ _ _ _
theorem V1_ne (d : Dev nD) {r : Ref sig .tc} (h : r ≠ main_v0) : V1 m d (Proc.devRef .tc r) = m ((SparseCore.T d).loc r) :=
  StableHlo.reshape_result_ne _ _ _ _ _ _ _ h

theorem V2_c (d : Dev nD) : V2 m d cB = C m d := Function.update_self _ _ _
theorem V2_b (d : Dev nD) : V2 m d bB = B m d := (Function.update_of_ne (show bB ≠ cB by decide) _ _).trans (Function.update_self _ _ _)
theorem V2_a (d : Dev nD) : V2 m d aB = A m d :=
  (Function.update_of_ne (show aB ≠ cB by decide) _ _).trans ((Function.update_of_ne (show aB ≠ bB by decide) _ _).trans (Function.update_self _ _ _))
theorem V2_ne (d : Dev nD) {b : DevRef τ sig} (ha : b ≠ aB) (hb : b ≠ bB) (hc : b ≠ cB) : V2 m d b = V1 m d b :=
  (Function.update_of_ne hc _ _).trans ((Function.update_of_ne hb _ _).trans (Function.update_of_ne ha _ _))

theorem V3_arg (d : Dev nD) : V3 m d gB = m (argLoc d) := by
  unfold V3
  rw [StableHlo.reshape_result_ne _ _ _ _ _ _ _ (show (main_arg0 : Ref sig .tc) ≠ main_v4 by decide),
    StableHlo.reshape_result_ne _ _ _ _ _ _ _ (show (main_arg0 : Ref sig .tc) ≠ main_v3 by decide),
    StableHlo.reshape_result_ne _ _ _ _ _ _ _ (show (main_arg0 : Ref sig .tc) ≠ main_v2 by decide),
    V2_ne m d (show gB ≠ aB by decide) (show gB ≠ bB by decide) (show gB ≠ cB by decide)]
  exact V1_ne m d (show (main_arg0 : Ref sig .tc) ≠ main_v0 by decide)

theorem V3_a (d : Dev nD) : V3 m d aR = resA m d := by
  unfold V3
  rw [StableHlo.reshape_result_ne _ _ _ _ _ _ _ (show (main_v2 : Ref sig .tc) ≠ main_v4 by decide),
    StableHlo.reshape_result_ne _ _ _ _ _ _ _ (show (main_v2 : Ref sig .tc) ≠ main_v3 by decide)]
  refine (StableHlo.reshape_result _ _ _ _ _ _ _).trans ?_
  show shapeCast S4x8192 (V2 m d aB) shapeCasts_S32768_S4x8192 = _
  rw [V2_a]; rfl

theorem V3_b (d : Dev nD) : V3 m d bR = resB m d := by
  unfold V3
  rw [StableHlo.reshape_result_ne _ _ _ _ _ _ _ (show (main_v3 : Ref sig .tc) ≠ main_v4 by decide)]
  refine (StableHlo.reshape_result _ _ _ _ _ _ _).trans ?_
  show shapeCast S4x8192 ((opA (F := F)).result (V2 m d) bB) shapeCasts_S32768_S4x8192 = _
  rw [StableHlo.reshape_result_ne _ _ _ _ _ _ _ (show (main_v1_1 : Ref sig .tc) ≠ main_v2 by decide), V2_b]; rfl

theorem V3_c (d : Dev nD) : V3 m d cR = resC m d := by
  unfold V3
  refine (StableHlo.reshape_result _ _ _ _ _ _ _).trans ?_
  show shapeCast S4x8192 ((opB (F := F)).result ((opA (F := F)).result (V2 m d)) cB) shapeCasts_S32768_S4x8192 = _
  rw [StableHlo.reshape_result_ne _ _ _ _ _ _ _ (show (main_v1_2 : Ref sig .tc) ≠ main_v3 by decide),
    StableHlo.reshape_result_ne _ _ _ _ _ _ _ (show (main_v1_2 : Ref sig .tc) ≠ main_v2 by decide), V2_c]; rfl

/-- The arrays before the call, … -/
theorem held_before (d : Dev nD) :
    (held (T d) arrays ((opX (F := F)).result (V0 m d)) : sProp 𝕄)
      = iprop((argLoc d ↦{fullShare} V1 m d gB) ∗ (xLoc d ↦{fullShare} X m d) ∗ (aLoc d ↦{fullShare} m (aLoc d)) ∗ (bLoc d ↦{fullShare} m (bLoc d))
          ∗ (cLoc d ↦{fullShare} m (cLoc d)) ∗ (raLoc d ↦{fullShare} V1 m d aR) ∗ (rbLoc d ↦{fullShare} V1 m d bR)
          ∗ rcLoc d ↦{fullShare} V1 m d cR) := by
  show held (SparseCore.T d) arrays (V1 m d) = _
  rw [held_arrays, V1_x, V1_ne m d (show (main_v1_0 : Ref sig .tc) ≠ main_v0 by decide), V1_ne m d (show (main_v1_1 : Ref sig .tc) ≠ main_v0 by decide),
    V1_ne m d (show (main_v1_2 : Ref sig .tc) ≠ main_v0 by decide)]

/-- … after it, … -/
theorem held_after (d : Dev nD) :
    (held (T d) arrays (V2 m d) : sProp 𝕄)
      = iprop((argLoc d ↦{fullShare} V1 m d gB) ∗ (xLoc d ↦{fullShare} X m d) ∗ (aLoc d ↦{fullShare} A m d) ∗ (bLoc d ↦{fullShare} B m d)
          ∗ (cLoc d ↦{fullShare} C m d) ∗ (raLoc d ↦{fullShare} V1 m d aR) ∗ (rbLoc d ↦{fullShare} V1 m d bR)
          ∗ rcLoc d ↦{fullShare} V1 m d cR) := by
  rw [held_arrays, V2_a, V2_b, V2_c, V2_ne m d (show gB ≠ aB by decide) (show gB ≠ bB by decide) (show gB ≠ cB by decide),
    V2_ne m d (show xB ≠ aB by decide) (show xB ≠ bB by decide) (show xB ≠ cB by decide), V2_ne m d (show aR ≠ aB by decide) (show aR ≠ bB by decide) (show aR ≠ cB by decide),
    V2_ne m d (show bR ≠ aB by decide) (show bR ≠ bB by decide) (show bR ≠ cB by decide), V2_ne m d (show cR ≠ aB by decide) (show cR ≠ bB by decide) (show cR ≠ cB by decide), V1_x]

/-- … and at the end: of these the claims keep the argument and the three results. -/
abbrev FIN (d : Dev nD) : sProp 𝕄 :=
  iprop((argLoc d ↦{fullShare} m (argLoc d)) ∗ (raLoc d ↦{fullShare} resA m d) ∗ (rbLoc d ↦{fullShare} resB m d)
    ∗ rcLoc d ↦{fullShare} resC m d)

theorem held_end (d : Dev nD) :
    (held (T d) arrays ((opC (F := F)).result ((opB (F := F)).result ((opA (F := F)).result (V2 m d)))) : sProp 𝕄) ⊢ FIN m d := by
  show held (SparseCore.T d) arrays (V3 m d) ⊢ _
  rw [held_arrays, V3_arg, V3_a, V3_b, V3_c]
  iintro ⟨Hg, -, -, -, -, Ha, Hb, Hc⟩
  isplitl [Hg]; · iexact Hg
  isplitl [Ha]; · iexact Ha
  isplitl [Hb]; · iexact Hb
  iexact Hc

theorem hX : (opX (F := F)).bufs ⊆ arrays := show ({gB, xB} : Finset (DevRef τ sig)) ⊆ arrays by decide
theorem hA : (opA (F := F)).bufs ⊆ arrays := show ({aB, aR} : Finset (DevRef τ sig)) ⊆ arrays by decide
theorem hB : (opB (F := F)).bufs ⊆ arrays := show ({bB, bR} : Finset (DevRef τ sig)) ⊆ arrays by decide
theorem hC : (opC (F := F)).bufs ⊆ arrays := show ({cB, cR} : Finset (DevRef τ sig)) ⊆ arrays by decide

/-- @main on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hz, Hheld, Hts, -⟩, -⟩
  iapply (wp_hlo_within 𝒱 (SparseCore.T d) none Set.univ (op := opX) (S := arrays) hX (V := V0 m d)) $$ [Hz Hheld]
  · isplitl [Hz] <;> iassumption
  iintro ⟨Hz, Hheld⟩
  rw [wp_ret]; imodintro
  ihave Hh := (Entails.of_eq (held_before (F := F) m d)) $$ Hheld
  icases Hh with ⟨Hg, Hx, Ha, Hb, Hc, Hra, Hrb, Hrc⟩
  iapply ((K (F := F)).wp_run (D (F := F)) 𝒱 (EH := EH) (P := P m) κ d 0) $$ [Hst Hx Ha Hb Hc Hz Hg Hra Hrb Hrc Hts]
  isplitr; · iexact Hctx
  isplitl [Hst]; · iexact Hst
  isplitl [Hx Ha Hb Hc]
  · rw [st_eq]
    isplitl [Hx]; · iexact Hx
    isplitl [Ha]; · iexact Ha
    isplitl [Hb]; · iexact Hb
    iexact Hc
  iintro ⟨Hst, Hdn⟩
  ihave Hdn' := (Entails.of_eq (dn_eq d m)) $$ Hdn
  icases Hdn' with ⟨Hx, Ha, Hb, Hc⟩
  ihave Hheld := (Entails.of_eq (held_after (F := F) m d).symm) $$ [Hg Hx Ha Hb Hc Hra Hrb Hrc]
  · isplitl [Hg]; · iexact Hg
    isplitl [Hx]; · iexact Hx
    isplitl [Ha]; · iexact Ha
    isplitl [Hb]; · iexact Hb
    isplitl [Hc]; · iexact Hc
    isplitl [Hra]; · iexact Hra
    isplitl [Hrb]; · iexact Hrb
    iexact Hrc
  iapply (wp_hlo_within 𝒱 (SparseCore.T d) none Set.univ (op := opA) (S := arrays) hA (V := V2 m d)) $$ [Hz Hheld]
  · isplitl [Hz] <;> iassumption
  iintro ⟨Hz, Hheld⟩
  rw [wp_ret]; imodintro
  iapply (wp_hlo_within 𝒱 (SparseCore.T d) none Set.univ (op := opB) (S := arrays) hB (V := (opA (F := F)).result (V2 m d))) $$ [Hz Hheld]
  · isplitl [Hz] <;> iassumption
  iintro ⟨Hz, Hheld⟩
  rw [wp_ret]; imodintro
  iapply (wp_hlo_within 𝒱 (SparseCore.T d) none Set.univ (op := opC) (S := arrays) hC (V := (opB (F := F)).result ((opA (F := F)).result (V2 m d)))) $$ [Hz Hheld]
  · isplitl [Hz] <;> iassumption
  iintro ⟨Hz, Hheld⟩
  ihave Hfin := (held_end (F := F) m d) $$ Hheld
  rw [wp_ret]; imodintro; imodintro
  isplitl [Hst]; · iexact Hst
  isplitl [Hfin]; · iexact Hfin
  isplitl [Hz] <;> iassumption

/-! ## The run -/

/-- What is read off the last state of a device: the argument as it was and the three results. -/
def fq (d : Dev nD) (s' : Phys nD τ sig (Elt F)) : Prop :=
  s'.mem.mem (argLoc d) = m (argLoc d) ∧ s'.mem.mem (raLoc d) = resA m d ∧ s'.mem.mem (rbLoc d) = resB m d
    ∧ s'.mem.mem (rcLoc d) = resC m d

/-- An array held whole is what the last state has there. -/
theorem read_whole {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hg, Ha, Hb, Hc⟩, HSI⟩
  ihave H := (read_whole (F := F) (ℓ := argLoc d) (m (argLoc d)) s') $$ [HSI Hg]; · isplitl [Hg] <;> iassumption
  icases H with ⟨%hg, HSI⟩
  ihave H := (read_whole (F := F) (ℓ := raLoc d) (resA m d) s') $$ [HSI Ha]; · isplitl [Ha] <;> iassumption
  icases H with ⟨%ha, HSI⟩
  ihave H := (read_whole (F := F) (ℓ := rbLoc d) (resB m d) s') $$ [HSI Hb]; · isplitl [Hb] <;> iassumption
  icases H with ⟨%hb, HSI⟩
  ihave H := (read_whole (F := F) (ℓ := rcLoc d) (resC m d) s') $$ [HSI Hc]; · isplitl [Hc] <;> iassumption
  icases H with ⟨%hc, HSI⟩
  ipureintro; exact ⟨hg, ha, hb, hc⟩

/-- What a run ends with. -/
def QC : PUnit × MemSt nD τ sig (Elt F) → Prop := fun r =>
  (∀ d : Dev nD, r.2.mem (argLoc d) = m (argLoc d) ∧ r.2.mem (raLoc d) = resA m d ∧ r.2.mem (rbLoc d) = resB m d
    ∧ r.2.mem (rcLoc d) = resC m d) ∧ r.2.sem = fun _ => 0

/-- Every run of the program, from any memory with the semaphores at zero, ends; it ends with the argument as it was, the three results at their stated values
    and the semaphores at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.RowsEquation.lean ====
/-
  The equation: the kernel's three flat arrays, brought back to rows, are the reference's three results. Word `8192 * r + c` of a flat array is column `c`
  of row `r`, so the word after it is the next column of the same row unless the row ends there.
-/
module

public import proofs.«01_k».proof.Proof.FlatRows
public import proofs.«01_k».proof.Proof.Gen.ReferenceIdeal
public import Idealize.ShloMosaic.Lib.Pipeline.Value
public import Idealize.ShloMosaic.Lib.WordCmp

@[expose] public section

noncomputable section

namespace Cert.Proof.RowsEquation

open Idealize.ShloMosaic Cert.ReferenceIdeal Cert.ReferenceIdeal.Gen
open Cert.Proof.FlatRows (Flat pad pos pos_eq shifted halved)

/-- A flat array brought to rows has word `8192 * r + c` at row `r`, column `c`. -/
theorem rows_apply (y : Flat.Idx → BitVec 32) (h : Flat.ShapeCasts S4x8192) (j : S4x8192.Idx) :
    shapeCast S4x8192 y h j = y (pos ((j 0).val * 8192 + (j 1).val)) := by
  have h0 : (j 0).val < 4 := (j 0).isLt
  have h1 : (j 1).val < 8192 := (j 1).isLt
  refine shapeCast_apply y h j _ ?_
  rw [Shape.rowMajor_val_one, Shape.rowMajor_val_two]
  show ((j 0).val * 8192 + (j 1).val) % 32768 = (j 0).val * 8192 + (j 1).val
  omega

/-- The rows made flat have row `r`, column `c` at word `8192 * r + c`. -/
theorem flat_apply (x : S4x8192.Idx → BitVec 32) (h : S4x8192.ShapeCasts Flat) (n : ℕ) (j : S4x8192.Idx) (hj : (j 0).val * 8192 + (j 1).val = n) :
    shapeCast Flat x h (pos n) = x j := by
  have h0 : (j 0).val < 4 := (j 0).isLt
  have h1 : (j 1).val < 8192 := (j 1).isLt
  refine shapeCast_apply x h _ j ?_
  rw [Shape.rowMajor_val_one, Shape.rowMajor_val_two]
  show (j 0).val * 8192 + (j 1).val = n % 32768
  omega

/-- The number of a flat position is the number it was made from. -/
theorem pos_val (r c : ℕ) (hr : r < 4) (hc : c < 8192) : ((pos (r * 8192 + c)) 0).val = r * 8192 + c := by
  show (r * 8192 + c) % 32768 = r * 8192 + c
  omega

/-- A column of the reference's shifted part. -/
abbrev inSlice (j : S4x8192.Idx) (h : (j 1).val < 8191) : S4x8191.Idx := fun | 0 => j 0 | 1 => ⟨(j 1).val, h⟩

/-- The column after, of the same row. -/
abbrev next (j : S4x8192.Idx) (h : (j 1).val < 8191) : S4x8192.Idx := fun | 0 => j 0 | 1 => ⟨(j 1).val + 1, Nat.succ_lt_succ h⟩

/-- The reference's padding column, at a row. -/
abbrev inColumn (j : S4x8192.Idx) : S4x1.Idx := fun | 0 => j 0 | 1 => ⟨0, Nat.zero_lt_one⟩

/-- The labels: the flat array shifted by one word within each row is the reference's columns 1 to 8191 followed by a column of padding. -/
theorem shifted_rows (x : S4x8192.Idx → BitVec 32) (h : S4x8192.ShapeCasts Flat) (h' : Flat.ShapeCasts S4x8192) :
    shapeCast S4x8192 (shifted (shapeCast Flat x h)) h'
      = concatenate S4x8192 1 [⟨S4x8191, extractStridedSlice S4x8191 ![0, 1] x slices_S4x8192_S4x8191_0_1⟩,
          ⟨S4x1, broadcastInDim S4x1 ![] bcast_S_S4x1 (constantI S_ 32 4294967196#32)⟩] concatenates_S4x8191_S4x1_S4x8192_d1 := by
  funext j
  have h0 : (j 0).val < 4 := (j 0).isLt
  have h1 : (j 1).val < 8192 := (j 1).isLt
  rw [rows_apply]
  unfold shifted
  rw [pos_val _ _ h0 h1]
  by_cases hc : (j 1).val < 8191
  · rw [if_neg (by omega), flat_apply x h _ (next j hc) (by show (j 0).val * 8192 + ((j 1).val + 1) = _; omega)]
    symm
    refine (concatenate_pair_apply_left (s₁ := S4x8191) (s₂ := S4x1) 1 _ _ _ j rfl (inSlice j hc) (Fin.forall_fin_two.2 ⟨rfl, rfl⟩)).trans ?_
    exact extractStridedSlice_apply _ x _ _ (next j hc) (Fin.forall_fin_two.2
      ⟨(Nat.zero_add _).symm, Nat.add_comm _ _⟩)
  · rw [if_pos (by omega)]
    symm
    exact concatenate_pair_apply_right (s₁ := S4x8191) (s₂ := S4x1) 1 _ _ _ j rfl rfl (inColumn j)
      (Fin.forall_fin_two.2 ⟨fun _ => rfl, fun hne => absurd rfl hne⟩) (by show 0 + 8191 = (j 1).val; omega)

/-- The denoising labels: the second half of each row as it stands and padding elsewhere, as the reference selects them by column. -/
theorem halved_rows (x : S4x8192.Idx → BitVec 32) (h : S4x8192.ShapeCasts Flat) (h' : Flat.ShapeCasts S4x8192) :
    shapeCast S4x8192 (halved (shapeCast Flat x h)) h'
      = select (broadcastInDim S4x8192 ![0, 1] bcast_S1x8192_S4x8192_0_1 (broadcastInDim S1x8192 ![1] bcast_S8192_S1x8192_1
          (cmpi .sge (iotaInDim S8192 32 0) (broadcastInDim S8192 ![] bcast_S_S8192 (constantI S_ 32 4096#32))))) x
          (broadcastInDim S4x8192 ![] bcast_S_S4x8192 (constantI S_ 32 4294967196#32)) := by
  funext j
  have h0 : (j 0).val < 4 := (j 0).isLt
  have h1 : (j 1).val < 8192 := (j 1).isLt
  rw [rows_apply]
  unfold halved
  rw [pos_val _ _ h0 h1, flat_apply x h _ j rfl]
  show _ = Scalar.select (IntOp.cmpi .sge (BitVec.ofNat 32 (j 1).val) (BitVec.ofNat 32 4096)) (x j) pad
  unfold Scalar.select
  have hm : ((j 0).val * 8192 + (j 1).val) % 8192 = (j 1).val := by omega
  rw [hm]
  have hcmp : IntOp.cmpi .sge (BitVec.ofNat 32 (j 1).val) (BitVec.ofNat 32 4096) = 1 ↔ 4096 ≤ (j 1).val :=
    WordCmp.cmpi_sge_ofNat_eq_one_iff (w := 32) (by omega) (by decide)
  by_cases hc : 4096 ≤ (j 1).val
  · rw [if_pos hc, if_pos (hcmp.2 hc)]
  · rw [if_neg hc, if_neg (fun e => hc (hcmp.1 e))]

end Cert.Proof.RowsEquation

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.RowsEquation
public import Idealize.ShloMosaic.Adequacy
public import Idealize.ShloMosaic.Init

@[expose] public section

noncomputable section

namespace Cert.Proof

open Idealize.ShloMosaic Idealize.SL.Sem

/-- The kernel runs, leaves its argument as it was and every semaphore at zero. -/
theorem frame_kernel : Cert.quiescent_Kernel (hKernel := Cert.Kernel.Gen.facts) := fun m ρ _ =>
  (θ_run (Cert.Kernel.defs (F := Bits)) _ _).mono (fun _ h => ⟨fun c => (h.1 c).1, h.2⟩) (Kernel.run_main (F := Bits) m ρ)

/-- So does the kernel over the extended reals. -/
theorem frame_kernelIdeal : Cert.quiescent_KernelIdeal (hKernelIdeal := Cert.KernelIdeal.Gen.facts) := fun m ρ _ =>
  (θ_run (Cert.KernelIdeal.defs (F := Ideal)) _ _).mono (fun _ h => ⟨fun c => (h.1 c).1, h.2⟩) (KernelIdeal.run_main (F := Ideal) m ρ)

/-- So does the reference; it has no semaphore. -/
theorem frame_referenceIdeal : Cert.quiescent_ReferenceIdeal (hReferenceIdeal := Cert.ReferenceIdeal.Gen.facts) := fun m ρ _ =>
  (θ_run (Cert.ReferenceIdeal.defs (F := Ideal)) _ _).mono (fun r h => ⟨fun c => (h c).1, sem_eq_zero_of_no_sems (by decide) r.2⟩)
    (Cert.ReferenceIdeal.Value.run (F := Ideal) m ρ)

/-- The first result is the argument: it was flattened, copied, and brought back to rows. -/
theorem copied_rows (m : (ℓ : Loc Cert.KernelIdeal.nD Cert.KernelIdeal.τ Cert.KernelIdeal.sig) → Buf (Elt Ideal) ℓ) (c : Dev Cert.KernelIdeal.nD) :
    KernelIdeal.resA m c = m (KernelIdeal.argLoc c) :=
  shapeCast_shapeCast _ _ _

/-- Kernel and reference, given the same argument, end with the same three results. -/
theorem equal_results : Cert.algebraic_KernelIdeal_ReferenceIdeal (hKernelIdeal := Cert.KernelIdeal.Gen.facts) (hReferenceIdeal := Cert.ReferenceIdeal.Gen.facts) := by
  intro m g m' g' _ hm
  refine ⟨fun c => KernelIdeal.resA m c, fun c => KernelIdeal.resB m c, fun c => KernelIdeal.resC m c, ?_, ?_⟩
  · exact (θ_run (Cert.KernelIdeal.defs (F := Ideal)) _ _).mono (fun _ h c => ⟨(h.1 c).2.1, (h.1 c).2.2.1, (h.1 c).2.2.2, (h.1 c).1⟩)
      (KernelIdeal.run_main (F := Ideal) m g)
  · refine (θ_run (Cert.ReferenceIdeal.defs (F := Ideal)) _ _).mono (fun r h c => ?_) (Cert.ReferenceIdeal.Value.run (F := Ideal) m' g')
    obtain ⟨h0, h1, h2, h3⟩ := h c
    refine ⟨(h0.trans (hm c)).trans (copied_rows m c).symm, h1.trans ?_, h2.trans ?_, h3⟩
    · rw [hm c]; exact (RowsEquation.shifted_rows _ _ _).symm
    · rw [hm c]; exact (RowsEquation.halved_rows _ _ _).symm

theorem claim : Cert.Claim :=
  ⟨Cert.Kernel.Gen.facts, Cert.KernelIdeal.Gen.facts, Cert.ReferenceIdeal.Gen.facts, frame_kernel, frame_kernelIdeal, frame_referenceIdeal, trivial, equal_results⟩

end Cert.Proof

end
